-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x [hPre_finite_x : Cert.Pre_finite_x.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x [hPre_finite_x : Cert.Pre_finite_x.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_x [hKernelIdeal : Cert.KernelIdeal.Facts] [hPre_finite_x : Cert.Pre_finite_x.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_x [hReferenceIdeal : Cert.ReferenceIdeal.Facts] [hPre_finite_x : Cert.Pre_finite_x.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_x [hKernelIdeal : Cert.KernelIdeal.Facts] [hReferenceIdeal : Cert.ReferenceIdeal.Facts] [hPre_finite_x : Cert.Pre_finite_x.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_x m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_x : Cert.Pre_finite_x.Facts),
    quiescent_Kernel (hKernel := hKernel)
    ∧ quiescent_KernelIdeal (hKernelIdeal := hKernelIdeal)
    ∧ quiescent_KernelIdeal_pre_finite_x (hKernelIdeal := hKernelIdeal) (hPre_finite_x := hPre_finite_x)
    ∧ quiescent_ReferenceIdeal (hReferenceIdeal := hReferenceIdeal)
    ∧ quiescent_ReferenceIdeal_pre_finite_x (hReferenceIdeal := hReferenceIdeal) (hPre_finite_x := hPre_finite_x)
    ∧ preserves_Kernel_KernelIdeal
    ∧ algebraic_KernelIdeal_ReferenceIdeal_pre_finite_x (hKernelIdeal := hKernelIdeal) (hReferenceIdeal := hReferenceIdeal) (hPre_finite_x := hPre_finite_x)
-- ==== Pre_finite_x.lean ====
abbrev S16x1x7168 : Shape := ⟨3, ![16, 1, 7168]⟩
abbrev S16384x7168 : Shape := ⟨2, ![16384, 7168]⟩
abbrev S16384 : Shape := ⟨1, ![16384]⟩
abbrev S_ : Shape := ⟨0, ![]⟩

class Facts : Prop where
  bcast_S_S16x1x7168 : S_.BroadcastsInDim S16x1x7168 (![] : Fin 0 → Fin S16x1x7168.rank)

variable [Facts]

def fn {F : FTy → Type} [FloatOps F] (main_arg0 : FVec F S16x1x7168 .bf16) (main_arg1 : IVec S16384x7168 8) (main_arg2 : FVec F S16384 .f32) (main_arg3 : IVec S16384 8) : IVec S16x1x7168 1 :=
  let main_cst : FVec F S_ .bf16 := constant S_ .bf16 0xFF80#16
  let main_v0 : FVec F S16x1x7168 .bf16 := broadcastInDim S16x1x7168 ![] bcast_S_S16x1x7168 main_cst
  let main_v1 : IVec S16x1x7168 1 := cmpf .ogt main_arg0 main_v0
  let main_cst_0 : FVec F S_ .bf16 := constant S_ .bf16 0x7F80#16
  let main_v2 : FVec F S16x1x7168 .bf16 := broadcastInDim S16x1x7168 ![] bcast_S_S16x1x7168 main_cst_0
  let main_v3 : IVec S16x1x7168 1 := cmpf .olt main_arg0 main_v2
  let main_v4 : IVec S16x1x7168 1 := andi main_v1 main_v3
  main_v4
-- ==== Kernel.lean ====
abbrev S16x1x7168 : Shape := ⟨3, ![16, 1, 7168]⟩
abbrev S16384x7168 : Shape := ⟨2, ![16384, 7168]⟩
abbrev S16384 : Shape := ⟨1, ![16384]⟩
abbrev S16x7168 : Shape := ⟨2, ![16, 7168]⟩
abbrev S1x16384 : Shape := ⟨2, ![1, 16384]⟩
abbrev S16x16384 : Shape := ⟨2, ![16, 16384]⟩
abbrev S512x7168 : Shape := ⟨2, ![512, 7168]⟩
abbrev S1x512 : Shape := ⟨2, ![1, 512]⟩
abbrev S16x512 : Shape := ⟨2, ![16, 512]⟩
abbrev S512x256 : Shape := ⟨2, ![512, 256]⟩
abbrev S256x512 : Shape := ⟨2, ![256, 512]⟩
abbrev S16x256 : Shape := ⟨2, ![16, 256]⟩
abbrev S16 : Shape := ⟨1, ![16]⟩
abbrev S16x1 : Shape := ⟨2, ![16, 1]⟩

abbrev nBuf : Space → Nat
  | .hbm => 8
  | .vmem => 9
  | .smem => 0
  | _ => 0

abbrev bufTy : (tb : Table) → Fin (tcTables nBuf tb) → BufTy
  | .hbm, ⟨0, _⟩ => ⟨S16x1x7168, .bf16⟩
  | .hbm, ⟨1, _⟩ => ⟨S16384x7168, .i8⟩
  | .hbm, ⟨2, _⟩ => ⟨S16384, .f32⟩
  | .hbm, ⟨3, _⟩ => ⟨S16384, .i8⟩
  | .hbm, ⟨4, _⟩ => ⟨S16x7168, .bf16⟩
  | .hbm, ⟨5, _⟩ => ⟨S1x16384, .f32⟩
  | .hbm, ⟨6, _⟩ => ⟨S1x16384, .i8⟩
  | .hbm, ⟨7, _⟩ => ⟨S16x16384, .bf16⟩
  | .local _ .vmem, ⟨0, _⟩ => ⟨S16x7168, .bf16⟩
  | .local _ .vmem, ⟨1, _⟩ => ⟨S512x7168, .i8⟩
  | .local _ .vmem, ⟨2, _⟩ => ⟨S512x7168, .i8⟩
  | .local _ .vmem, ⟨3, _⟩ => ⟨S1x512, .f32⟩
  | .local _ .vmem, ⟨4, _⟩ => ⟨S1x512, .f32⟩
  | .local _ .vmem, ⟨5, _⟩ => ⟨S1x512, .i8⟩
  | .local _ .vmem, ⟨6, _⟩ => ⟨S1x512, .i8⟩
  | .local _ .vmem, ⟨7, _⟩ => ⟨S16x512, .bf16⟩
  | .local _ .vmem, ⟨8, _⟩ => ⟨S16x512, .bf16⟩
  | _, _ => ⟨S16x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x7168 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16x1x7168 : Shape := ⟨3, ![16, 1, 7168]⟩
abbrev S16384x7168 : Shape := ⟨2, ![16384, 7168]⟩
abbrev S16384 : Shape := ⟨1, ![16384]⟩
abbrev S16x7168 : Shape := ⟨2, ![16, 7168]⟩
abbrev S1x16384 : Shape := ⟨2, ![1, 16384]⟩
abbrev S16384x1 : Shape := ⟨2, ![16384, 1]⟩
abbrev S16x16384 : Shape := ⟨2, ![16, 16384]⟩

abbrev nBuf : Space → Nat
  | .hbm => 8
  | .vmem => 5
  | .smem => 0
  | _ => 0

abbrev bufTy : (tb : Table) → Fin (tcTables nBuf tb) → BufTy
  | .hbm, ⟨0, _⟩ => ⟨S16x1x7168, .bf16⟩
  | .hbm, ⟨1, _⟩ => ⟨S16384x7168, .i8⟩
  | .hbm, ⟨2, _⟩ => ⟨S16384, .f32⟩
  | .hbm, ⟨3, _⟩ => ⟨S16384, .i8⟩
  | .hbm, ⟨4, _⟩ => ⟨S16x7168, .bf16⟩
  | .hbm, ⟨5, _⟩ => ⟨S1x16384, .f32⟩
  | .hbm, ⟨6, _⟩ => ⟨S16384x1, .i8⟩
  | .hbm, ⟨7, _⟩ => ⟨S16x16384, .bf16⟩
  | .local _ .vmem, ⟨0, _⟩ => ⟨S16x7168, .bf16⟩
  | .local _ .vmem, ⟨1, _⟩ => ⟨S16384x7168, .i8⟩
  | .local _ .vmem, ⟨2, _⟩ => ⟨S1x16384, .f32⟩
  | .local _ .vmem, ⟨3, _⟩ => ⟨S16384x1, .i8⟩
  | .local _ .vmem, ⟨4, _⟩ => ⟨S16x16384, .bf16⟩
  | _, _ => ⟨S16x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S16x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x7168 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x16384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x1 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x16384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Spec.lean ====
/-
  Hand-written, untrusted. The linear layer both programs compute, over the extended reals: its two spellings and the
  law that joins them.
-/
module

public import Idealize.ShloMosaic.Lib.Pipeline.ValueKit
public import Idealize.ShloMosaic.Lib.Pointwise

@[expose] public section

noncomputable section

namespace Cert.Lin

open Idealize.ShloMosaic

/-- One dot product with the zero point taken from each weight: the sum of x · (w − z). -/
def shifted {n : ℕ} (x : Fin n → EReal) (w : Fin n → BitVec 8) (z : BitVec 8) : EReal :=
  ∑ k, x k * (((w k).toInt : ℝ) - (z.toInt : ℝ) : EReal)

/-- The same with the zero point taken out of the sum: the sum of x · w, less the sum of x times z. -/
def split {n : ℕ} (x : Fin n → EReal) (w : Fin n → BitVec 8) (z : BitVec 8) : EReal :=
  (∑ k, x k * (((w k).toInt : ℝ) : EReal)) - (∑ k, x k) * ((z.toInt : ℝ) : EReal)

theorem coe_sum {n : ℕ} (f : Fin n → ℝ) : ((∑ k, f k : ℝ) : EReal) = ∑ k, (f k : EReal) := by
  induction (Finset.univ : Finset (Fin n)) using Finset.induction_on with
  | empty => simp
  | insert a s ha ih => rw [Finset.sum_insert ha, Finset.sum_insert ha, EReal.coe_add, ih]

/-- The two agree where every x is finite. -/
theorem split_eq_shifted {n : ℕ} (x : Fin n → EReal) (w : Fin n → BitVec 8) (z : BitVec 8) (ht : ∀ k, x k ≠ ⊤)
    (hb : ∀ k, x k ≠ ⊥) : split x w z = shifted x w z := by
  obtain ⟨y, rfl⟩ : ∃ y : Fin n → ℝ, x = fun k => (y k : EReal) :=
    ⟨fun k => (x k).toReal, funext fun k => (EReal.coe_toReal (ht k) (hb k)).symm⟩
  unfold split shifted
  simp only [← EReal.coe_mul, ← EReal.coe_sub, ← coe_sum, mul_sub, Finset.sum_sub_distrib, Finset.sum_mul]

/-- A sum over 7168 features is the sum of its 28 tiles of 256. -/
theorem sum_tiles (f : Fin 7168 → EReal) :
    ∑ k : Fin 7168, f k = ∑ j : Fin 28, ∑ k : Fin 256, f ⟨256 * j + k, by omega⟩ := by
  rw [← Fintype.sum_prod_type', ← Equiv.sum_comp (finProdFinEquiv (m := 28) (n := 256))]
  exact Finset.sum_congr rfl fun p _ => congrArg f (Fin.ext (by simp [finProdFinEquiv, Nat.add_comm]))

/-- Twenty-eight summands, added one after the other. -/
theorem sum_univ_28 (g : Fin 28 → EReal) : ∑ j, g j =
    g 0 + g 1 + g 2 + g 3 + g 4 + g 5 + g 6 + g 7 + g 8 + g 9 + g 10 + g 11 + g 12 + g 13 + g 14 + g 15 + g 16 + g 17 + g 18 + g 19 + g 20 + g 21 + g 22 + g 23 + g 24 + g 25 + g 26 + g 27 := by
  simp only [Fin.sum_univ_castSucc, Fin.sum_univ_zero, zero_add]
  rfl

/-- The 28 tiles' sums, added one after the other, are the whole sum. -/
theorem sum_lanes (f : Fin 7168 → EReal) : ∑ k, f k =
    (∑ k : Fin 256, f ⟨k, by omega⟩) +
      ∑ k : Fin 256, f ⟨256 + k, by omega⟩ +
      ∑ k : Fin 256, f ⟨512 + k, by omega⟩ +
      ∑ k : Fin 256, f ⟨768 + k, by omega⟩ +
      ∑ k : Fin 256, f ⟨1024 + k, by omega⟩ +
      ∑ k : Fin 256, f ⟨1280 + k, by omega⟩ +
      ∑ k : Fin 256, f ⟨1536 + k, by omega⟩ +
      ∑ k : Fin 256, f ⟨1792 + k, by omega⟩ +
      ∑ k : Fin 256, f ⟨2048 + k, by omega⟩ +
      ∑ k : Fin 256, f ⟨2304 + k, by omega⟩ +
      ∑ k : Fin 256, f ⟨2560 + k, by omega⟩ +
      ∑ k : Fin 256, f ⟨2816 + k, by omega⟩ +
      ∑ k : Fin 256, f ⟨3072 + k, by omega⟩ +
      ∑ k : Fin 256, f ⟨3328 + k, by omega⟩ +
      ∑ k : Fin 256, f ⟨3584 + k, by omega⟩ +
      ∑ k : Fin 256, f ⟨3840 + k, by omega⟩ +
      ∑ k : Fin 256, f ⟨4096 + k, by omega⟩ +
      ∑ k : Fin 256, f ⟨4352 + k, by omega⟩ +
      ∑ k : Fin 256, f ⟨4608 + k, by omega⟩ +
      ∑ k : Fin 256, f ⟨4864 + k, by omega⟩ +
      ∑ k : Fin 256, f ⟨5120 + k, by omega⟩ +
      ∑ k : Fin 256, f ⟨5376 + k, by omega⟩ +
      ∑ k : Fin 256, f ⟨5632 + k, by omega⟩ +
      ∑ k : Fin 256, f ⟨5888 + k, by omega⟩ +
      ∑ k : Fin 256, f ⟨6144 + k, by omega⟩ +
      ∑ k : Fin 256, f ⟨6400 + k, by omega⟩ +
      ∑ k : Fin 256, f ⟨6656 + k, by omega⟩ +
      ∑ k : Fin 256, f ⟨6912 + k, by omega⟩ := by
  rw [sum_tiles, sum_univ_28]
  congr! with k
  all_goals simp

/-- An 8-bit integer cast to a float is the integer it spells. -/
theorem sitofp_eq (φ : FTy) (b : BitVec 8) : FloatOps.sitofp (F := Ideal) φ b = ((b.toInt : ℝ) : EReal) := rfl

end Cert.Lin

end
-- ==== Proof.Kernel.lean ====
/-
  Hand-written, untrusted. What the kernel computes, over the extended reals.
-/
module

public import proofs.«01_k».proof.Proof.Gen.KernelIdeal.Value
public import proofs.«01_k».proof.Proof.Spec

@[expose] public section

set_option maxRecDepth 16384

noncomputable section

namespace Cert.KernelIdeal.Lin

open Cert.KernelIdeal Cert.KernelIdeal.Gen Idealize.ShloMosaic Idealize.ShloMosaic.TcCoe Idealize.SL.Sem
open Idealize.ShloMosaic.Pipeline (Dat)

/-- One block of the output: the split form of the layer on the blocks read. -/
theorem out_apply (x0 : Vec Ideal S16x7168 .bf16) (x1 : Vec Ideal S512x7168 .i8) (x2 : Vec Ideal S1x512 .f32)
    (x3 : Vec Ideal S1x512 .i8) (y : S16x512.Idx) : out0_4 x0 x1 x2 x3 y =
      Cert.Lin.split (fun k => x0 (ix2 (y 0) k)) (fun k => x1 (ix2 (y 1) k)) (x3 (ix2 0 (y 1))) * x2 (ix2 0 (y 1)) := by
  frame_out
  pointwise [k0_pay1, k0_pay2, k0_pay3, k0_pay4, k0_pay5, k0_pay6, k0_pay7, k0_pay8, k0_pay9, k0_pay10, k0_pay11,
    k0_pay12, k0_pay13, k0_pay14, k0_pay15, k0_pay16, k0_pay17, k0_pay18]
  rw [Cert.Lin.split, Cert.Lin.sum_lanes fun k => x0 (ix2 (y 0) k) * (((x1 (ix2 (y 1) k)).toInt : ℝ) : EReal)]
  rfl

variable (m : (ℓ : Loc nD τ sig) → Buf (Elt Ideal) ℓ)

theorem V_v0 (c : Dev nD) (i : Fin 16) (k : Fin 7168) :
    V m c main_v0 (ix2 i k) = m ((c : Thread nD τ).loc main_arg0) (ix3 i 0 k) := by
  unfold_abbrev_sides
  after_results
  all_goals pointwise

theorem V_v1 (c : Dev nD) (o : Fin 16384) :
    V m c main_v1 (ix2 0 o) = m ((c : Thread nD τ).loc main_arg2) (ix1 o) := by
  unfold_abbrev_sides
  after_results
  all_goals pointwise

theorem V_v2 (c : Dev nD) (o : Fin 16384) :
    V m c main_v2 (ix2 0 o) = m ((c : Thread nD τ).loc main_arg3) (ix1 o) := by
  unfold_abbrev_sides
  after_results
  all_goals pointwise

theorem idx0 : ∀ t : Fin grid0.N, win0_0.index t = ![0, 0] ∧ win0_1.index t = ![t.val, 0]
    ∧ win0_2.index t = ![0, t.val] ∧ win0_3.index t = ![0, t.val] ∧ win0_4.index t = ![0, t.val] := by decide +kernel

theorem final (c : Dev nD) : (dats m 0 c).arrAt 4 cfg0.N = fun i : S16x16384.Idx =>
    Cert.Lin.split (fun k => m ((c : Thread nD τ).loc main_arg0) (ix3 (i 0) 0 k))
      (fun k => m ((c : Thread nD τ).loc main_arg1) (ix2 (i 1) k)) (m ((c : Thread nD τ).loc main_arg3) (ix1 (i 1)))
      * m ((c : Thread nD τ).loc main_arg2) (ix1 (i 1)) := by
  refine (dats m 0 c).arrAt_eq_of_covers 4 _ (by decide +kernel) fun t hf y => ?_
  blk_simp
  rw [after0_4]
  refine (out_apply _ _ _ _ _).trans ?_
  rw [Cert.Lin.split, Cert.Lin.split]
  blk_point [iblk, idx0 t]

end Cert.KernelIdeal.Lin

end
-- ==== Proof.Reference.lean ====
/-
  Hand-written, untrusted. What the reference program computes, over the extended reals.
-/
module

public import proofs.«01_k».proof.Proof.Gen.ReferenceIdeal.Value
public import proofs.«01_k».proof.Proof.Spec

@[expose] public section

set_option maxRecDepth 16384

noncomputable section

namespace Cert.ReferenceIdeal.Lin

open Cert.ReferenceIdeal Cert.ReferenceIdeal.Gen Idealize.ShloMosaic Idealize.ShloMosaic.TcCoe Idealize.SL.Sem
open Idealize.ShloMosaic.Pipeline (Dat)

variable (m : (ℓ : Loc nD τ sig) → Buf (Elt Ideal) ℓ)

theorem V_v0 (c : Dev nD) (i : Fin 16) (k : Fin 7168) :
    V m c main_v0 (ix2 i k) = m ((c : Thread nD τ).loc main_arg0) (ix3 i 0 k) := by
  unfold_abbrev_sides
  after_results
  all_goals pointwise

theorem V_v1 (c : Dev nD) (o : Fin 16384) :
    V m c main_v1 (ix2 0 o) = m ((c : Thread nD τ).loc main_arg2) (ix1 o) := by
  unfold_abbrev_sides
  after_results
  all_goals pointwise

theorem V_v2 (c : Dev nD) (o : Fin 16384) :
    V m c main_v2 (ix2 o 0) = m ((c : Thread nD τ).loc main_arg3) (ix1 o) := by
  unfold_abbrev_sides
  after_results
  all_goals pointwise

theorem idx0 : ∀ t : Fin grid0.N, win0_0.index t = ![0, 0] ∧ win0_1.index t = ![0, 0] ∧ win0_2.index t = ![0, 0]
    ∧ win0_3.index t = ![0, 0] ∧ win0_4.index t = ![0, 0] := by decide +kernel

theorem final (c : Dev nD) : (dats m 0 c).arrAt 4 cfg0.N = fun i : S16x16384.Idx =>
    Cert.Lin.shifted (fun k => m ((c : Thread nD τ).loc main_arg0) (ix3 (i 0) 0 k))
      (fun k => m ((c : Thread nD τ).loc main_arg1) (ix2 (i 1) k)) (m ((c : Thread nD τ).loc main_arg3) (ix1 (i 1)))
      * m ((c : Thread nD τ).loc main_arg2) (ix1 (i 1)) := by
  refine (dats m 0 c).arrAt_eq_of_covers 4 _ (by decide +kernel) fun t hf y => ?_
  blk_simp
  rw [after0_4]
  frame_out
  pointwise [k0_pay1]
  rw [Cert.Lin.shifted]
  simp only [Cert.Lin.sitofp_eq]
  blk_point [iblk, idx0 t]

end Cert.ReferenceIdeal.Lin

end
-- ==== Proof.Precondition.lean ====
/-
  Hand-written, untrusted. What the precondition says of each entry of x.
-/
module

public import proofs.«01_k».proof.Pre_finite_x
public import Idealize.ShloMosaic.Lib.Pointwise
public import Idealize.ShloMosaic.Lib.Affine

@[expose] public section

noncomputable section

namespace Cert.Lin

open Idealize.ShloMosaic Cert.Pre_finite_x

variable [Cert.Pre_finite_x.Facts]

/-- Where the precondition is all ones, every entry of x is finite. -/
theorem finite_of_pre (x : FVec Ideal S16x1x7168 .bf16) (w : IVec S16384x7168 8) (s : FVec Ideal S16384 .f32)
    (z : IVec S16384 8) (h : fn x w s z = fun _ => 1#1) (i : S16x1x7168.Idx) : x i ≠ (⊤ : EReal) ∧ x i ≠ (⊥ : EReal) := by
  have e := congrFun h i
  unfold fn at e
  pointwise at e
  have of_bit : ∀ {p : Prop} [Decidable p], BitVec.ofBool (decide p) = 1#1 → p := fun {p} _ hp => by
    by_contra hn; simp [hn] at hp
  obtain ⟨lo, hi⟩ := IntOp.andi_eq_one.mp e
  exact ⟨(of_bit hi).ne_top, (of_bit lo).ne_bot⟩

end Cert.Lin

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite_x
public import proofs.«01_k».proof.Proof.Gen.KernelIdeal.Value
public import proofs.«01_k».proof.Proof.Gen.ReferenceIdeal.Value
public import proofs.«01_k».proof.Proof.Kernel
public import proofs.«01_k».proof.Proof.Reference
public import proofs.«01_k».proof.Proof.Precondition
public import Idealize.ShloMosaic.Adequacy
public import Idealize.ShloMosaic.Init

@[expose] public section

set_option maxRecDepth 16384

noncomputable section

namespace Cert.Proof

open Idealize.ShloMosaic Idealize.SL.Sem Cert.Kernel

/-- The layer with the zero point taken from each weight, on device `c`'s argument arrays. -/
def LAYER (m : (ℓ : Loc Cert.KernelIdeal.nD Cert.KernelIdeal.τ Cert.KernelIdeal.sig) → Buf (Elt Ideal) ℓ)
    (c : Dev Cert.KernelIdeal.nD) :
    Buf (Elt Ideal) ((c.tc : Thread Cert.KernelIdeal.nD Cert.KernelIdeal.τ).loc Cert.KernelIdeal.main_v3) :=
  fun i : Cert.KernelIdeal.S16x16384.Idx =>
    Cert.Lin.shifted
      (fun k => m ((c.tc : Thread Cert.KernelIdeal.nD Cert.KernelIdeal.τ).loc Cert.KernelIdeal.main_arg0) (ix3 (i 0) 0 k))
      (fun k => m ((c.tc : Thread Cert.KernelIdeal.nD Cert.KernelIdeal.τ).loc Cert.KernelIdeal.main_arg1) (ix2 (i 1) k))
      (m ((c.tc : Thread Cert.KernelIdeal.nD Cert.KernelIdeal.τ).loc Cert.KernelIdeal.main_arg3) (ix1 (i 1)))
      * m ((c.tc : Thread Cert.KernelIdeal.nD Cert.KernelIdeal.τ).loc Cert.KernelIdeal.main_arg2) (ix1 (i 1))

/-- Kernel and reference both end with the layer's array, where x is finite. -/
theorem algebraic [Cert.Pre_finite_x.Facts] : Cert.algebraic_KernelIdeal_ReferenceIdeal_pre_finite_x := by
  intro m g m' g' hpre hagree
  refine ⟨LAYER m, (θ_run _ _ _).mono (fun r h c => ?_) (Cert.KernelIdeal.Value.run_blocks m g),
    (θ_run _ _ _).mono (fun r h c => ?_) (Cert.ReferenceIdeal.Value.run_blocks m' g')⟩
  · refine ⟨(h c).1.trans ((Cert.KernelIdeal.Lin.final m c).trans ?_), (h c).2⟩
    funext i
    exact congrArg (· * _) (Cert.Lin.split_eq_shifted _ _ _
      (fun k => (Cert.Lin.finite_of_pre _ _ _ _ (hpre c) _).1) (fun k => (Cert.Lin.finite_of_pre _ _ _ _ (hpre c) _).2))
  · refine ⟨(h c).1.trans ((Cert.ReferenceIdeal.Lin.final m' c).trans ?_), (h c).2⟩
    obtain ⟨h0, h1, h2, h3⟩ := hagree c
    funext i
    show Cert.Lin.shifted _ _ _ * _ = _
    rw [h0, h1, h2, h3]
    rfl

theorem claim : Cert.Claim := ⟨Cert.Kernel.Gen.facts, Cert.KernelIdeal.Gen.facts, Cert.ReferenceIdeal.Gen.facts,
  Cert.Pre_finite_x.Gen.facts, fun m ρ _ => Cert.Kernel.Gen.frame m ρ, fun m ρ _ => Cert.KernelIdeal.Gen.frame m ρ,
  fun m ρ _ => Cert.KernelIdeal.Gen.frame m ρ, fun m ρ _ => Cert.ReferenceIdeal.Gen.frame m ρ,
  fun m ρ _ => Cert.ReferenceIdeal.Gen.frame m ρ, trivial,
  haveI := Cert.Pre_finite_x.Gen.facts; algebraic⟩

end Cert.Proof

end
